-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_model [hPre_model : Cert.Pre_model.Facts] (m : (ℓ : Loc Cert.KernelIdeal.nD Cert.KernelIdeal.τ Cert.KernelIdeal.sig) → Buf (Elt Ideal) ℓ) : Prop :=
  ∀ c : Dev Cert.KernelIdeal.nD,
    (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_model.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_model [hPre_model : Cert.Pre_model.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_model.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_model [hKernelIdeal : Cert.KernelIdeal.Facts] [hPre_model : Cert.Pre_model.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_model m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_model [hReferenceIdeal : Cert.ReferenceIdeal.Facts] [hPre_model : Cert.Pre_model.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_model m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log_norm" .f32 0xC1EB3F8E#32 ((-(16 * (Real.log (13176795 / 2097152))) : ℝ) : EReal)

def algebraic_KernelIdeal_ReferenceIdeal_pre_model [hKernelIdeal : Cert.KernelIdeal.Facts] [hReferenceIdeal : Cert.ReferenceIdeal.Facts] [hPre_model : Cert.Pre_model.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_model m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_3) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_model : Cert.Pre_model.Facts),
    quiescent_Kernel (hKernel := hKernel)
    ∧ quiescent_KernelIdeal (hKernelIdeal := hKernelIdeal)
    ∧ quiescent_KernelIdeal_pre_model (hKernelIdeal := hKernelIdeal) (hPre_model := hPre_model)
    ∧ quiescent_ReferenceIdeal (hReferenceIdeal := hReferenceIdeal)
    ∧ quiescent_ReferenceIdeal_pre_model (hReferenceIdeal := hReferenceIdeal) (hPre_model := hPre_model)
    ∧ preserves_Kernel_KernelIdeal
    ∧ algebraic_KernelIdeal_ReferenceIdeal_pre_model (hKernelIdeal := hKernelIdeal) (hReferenceIdeal := hReferenceIdeal) (hPre_model := hPre_model)
-- ==== Pre_model.lean ====
abbrev S32768x32 : Shape := ⟨2, ![32768, 32]⟩
abbrev S2048 : Shape := ⟨1, ![2048]⟩
abbrev S64 : Shape := ⟨1, ![64]⟩
abbrev S64x64 : Shape := ⟨2, ![64, 64]⟩
abbrev S64x32 : Shape := ⟨2, ![64, 32]⟩
abbrev S_ : Shape := ⟨0, ![]⟩

class Facts : Prop where
  bcast_S_S32768x32 : S_.BroadcastsInDim S32768x32 (![] : Fin 0 → Fin S32768x32.rank)
  bcast_S_S64 : S_.BroadcastsInDim S64 (![] : Fin 0 → Fin S64.rank)
  reducesTo_S64_S_d0 : S64.ReducesTo [0] S_
  h_S_ : 0 < S_.numel
  bcast_S_S64x64 : S_.BroadcastsInDim S64x64 (![] : Fin 0 → Fin S64x64.rank)
  reducesTo_S64x64_S64_d1 : S64x64.ReducesTo [1] S64
  bcast_S_S64x32 : S_.BroadcastsInDim S64x32 (![] : Fin 0 → Fin S64x32.rank)

variable [Facts]

def fn_part1 {F : FTy → Type} [FloatOps F] (main_arg4 : FVec F S64x32 .f32) (main_arg5 : FVec F S64x32 .f32) (main_v2 : IVec S32768x32 1) (main_v7 : IVec S64 1) (main_v9 : IVec S_ 1) (main_v14 : IVec S64x64 1) (main_v15 : FVec F S64 .f32) : IVec S32768x32 1 × IVec S64 1 × IVec S_ 1 × IVec S64x64 1 × IVec S64 1 × IVec S64x32 1 × IVec S64x32 1 :=
  let main_cst_7 : FVec F S_ .f32 := constant S_ .f32 0x00000000#32
  let main_v16 : FVec F S64 .f32 := broadcastInDim S64 ![] bcast_S_S64 main_cst_7
  let main_v17 : IVec S64 1 := cmpf .ogt main_v15 main_v16
  let main_v18 : FVec F S64x32 .f32 := Host.absf main_arg4
  let main_cst_8 : FVec F S_ .f32 := constant S_ .f32 0x7F800000#32
  let main_v19 : FVec F S64x32 .f32 := broadcastInDim S64x32 ![] bcast_S_S64x32 main_cst_8
  let main_v20 : IVec S64x32 1 := cmpf .olt main_v18 main_v19
  let main_cst_9 : FVec F S_ .f32 := constant S_ .f32 0x00000000#32
  let main_v21 : FVec F S64x32 .f32 := broadcastInDim S64x32 ![] bcast_S_S64x32 main_cst_9
  let main_v22 : IVec S64x32 1 := cmpf .ogt main_arg5 main_v21
  let main_cst_10 : FVec F S_ .f32 := constant S_ .f32 0x7F800000#32
  let main_v23 : FVec F S64x32 .f32 := broadcastInDim S64x32 ![] bcast_S_S64x32 main_cst_10
  let main_v24 : IVec S64x32 1 := cmpf .olt main_arg5 main_v23
  let main_v25 : IVec S64x32 1 := andi main_v22 main_v24
  (main_v2, main_v7, main_v9, main_v14, main_v17, main_v20, main_v25)

def fn {F : FTy → Type} [FloatOps F] (main_arg0 : FVec F S32768x32 .f32) (main_arg1 : IVec S2048 32) (main_arg2 : FVec F S64 .f32) (main_arg3 : FVec F S64x64 .f32) (main_arg4 : FVec F S64x32 .f32) (main_arg5 : FVec F S64x32 .f32) : IVec S32768x32 1 × IVec S64 1 × IVec S_ 1 × IVec S64x64 1 × IVec S64 1 × IVec S64x32 1 × IVec S64x32 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_cst_0 : FVec F S_ .f32 := constant S_ .f32 0x00000000#32
  let main_v3 : FVec F S64 .f32 := broadcastInDim S64 ![] bcast_S_S64 main_cst_0
  let main_v4 : IVec S64 1 := cmpf .oge main_arg2 main_v3
  let main_cst_1 : FVec F S_ .f32 := constant S_ .f32 0x7F800000#32
  let main_v5 : FVec F S64 .f32 := broadcastInDim S64 ![] bcast_S_S64 main_cst_1
  let main_v6 : IVec S64 1 := cmpf .olt main_arg2 main_v5
  let main_v7 : IVec S64 1 := andi main_v4 main_v6
  let main_cst_2 : FVec F S_ .f32 := constant S_ .f32 0x00000000#32
  let main_v8 : FVec F S_ .f32 := (fun x v => Host.reduceAdd x v reducesTo_S64_S_d0 h_S_) main_arg2 main_cst_2
  let main_cst_3 : FVec F S_ .f32 := constant S_ .f32 0x00000000#32
  let main_v9 : IVec S_ 1 := cmpf .ogt main_v8 main_cst_3
  let main_cst_4 : FVec F S_ .f32 := constant S_ .f32 0x00000000#32
  let main_v10 : FVec F S64x64 .f32 := broadcastInDim S64x64 ![] bcast_S_S64x64 main_cst_4
  let main_v11 : IVec S64x64 1 := cmpf .oge main_arg3 main_v10
  let main_cst_5 : FVec F S_ .f32 := constant S_ .f32 0x7F800000#32
  let main_v12 : FVec F S64x64 .f32 := broadcastInDim S64x64 ![] bcast_S_S64x64 main_cst_5
  let main_v13 : IVec S64x64 1 := cmpf .olt main_arg3 main_v12
  let main_v14 : IVec S64x64 1 := andi main_v11 main_v13
  let main_cst_6 : FVec F S_ .f32 := constant S_ .f32 0x00000000#32
  let main_v15 : FVec F S64 .f32 := (fun x v => Host.reduceAdd x v reducesTo_S64x64_S64_d1 h_S_) main_arg3 main_cst_6
  fn_part1 (F := F) main_arg4 main_arg5 main_v2 main_v7 main_v9 main_v14 main_v15
-- ==== Kernel.lean ====
abbrev S32768x32 : Shape := ⟨2, ![32768, 32]⟩
abbrev S2048 : Shape := ⟨1, ![2048]⟩
abbrev S64 : Shape := ⟨1, ![64]⟩
abbrev S64x64 : Shape := ⟨2, ![64, 64]⟩
abbrev S64x32 : Shape := ⟨2, ![64, 32]⟩
abbrev S1x64 : Shape := ⟨2, ![1, 64]⟩
abbrev S16x64 : Shape := ⟨2, ![16, 64]⟩
abbrev S1x1 : Shape := ⟨2, ![1, 1]⟩
abbrev S32768x64 : Shape := ⟨2, ![32768, 64]⟩
abbrev S1x32 : Shape := ⟨2, ![1, 32]⟩
abbrev S4096x32 : Shape := ⟨2, ![4096, 32]⟩
abbrev S4096x64 : Shape := ⟨2, ![4096, 64]⟩
abbrev S32x64 : Shape := ⟨2, ![32, 64]⟩
abbrev S16x1 : Shape := ⟨2, ![16, 1]⟩
abbrev S16 : Shape := ⟨1, ![16]⟩
abbrev S16x32 : Shape := ⟨2, ![16, 32]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S32768x32, .f32⟩
  | .hbm, ⟨1, _⟩ => ⟨S2048, .i32⟩
  | .hbm, ⟨2, _⟩ => ⟨S64, .f32⟩
  | .hbm, ⟨3, _⟩ => ⟨S64x64, .f32⟩
  | .hbm, ⟨4, _⟩ => ⟨S64x32, .f32⟩
  | .hbm, ⟨5, _⟩ => ⟨S64x32, .f32⟩
  | .hbm, ⟨6, _⟩ => ⟨S1x64, .f32⟩
  | .hbm, ⟨7, _⟩ => ⟨S16x64, .f32⟩
  | .hbm, ⟨8, _⟩ => ⟨S1x1, .f32⟩
  | .hbm, ⟨9, _⟩ => ⟨S1, .f32⟩
  | .local _ .vmem, ⟨0, _⟩ => ⟨S32768x32, .f32⟩
  | .local _ .vmem, ⟨1, _⟩ => ⟨S1x64, .f32⟩
  | .local _ .vmem, ⟨2, _⟩ => ⟨S64x64, .f32⟩
  | .local _ .vmem, ⟨3, _⟩ => ⟨S64x32, .f32⟩
  | .local _ .vmem, ⟨4, _⟩ => ⟨S64x32, .f32⟩
  | .local _ .vmem, ⟨5, _⟩ => ⟨S16x64, .f32⟩
  | .local _ .vmem, ⟨6, _⟩ => ⟨S1x1, .f32⟩
  | .local _ .vmem, ⟨7, _⟩ => ⟨S32768x64, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c2047_i32 : BitVec 32 := 2047#32
  let v114 : BitVec 32 := Scalar.addi c1_i32 c2047_i32
  let c1_i32_56 : BitVec 32 := 1#32
  ⟨c1_i32, v114, c1_i32_56⟩
def k0_mult1 (k0_t1 : Fin k0_t1_loop.trips) : BitVec 32 :=
  let c1_i32 : BitVec 32 := 1#32
  let c1_i32_56 : BitVec 32 := 1#32
  let arg8 : BitVec 32 := Scf.iv c1_i32 c1_i32_56 k0_t1
  let c16_i32 : BitVec 32 := 16#32
  let v138 : BitVec 32 := Scalar.muli arg8 c16_i32
  v138
def k0_off1 (k0_t1 : Fin k0_t1_loop.trips) : Fin 2 → Nat :=
  let c1_i32 : BitVec 32 := 1#32
  let c1_i32_56 : BitVec 32 := 1#32
  let arg8 : BitVec 32 := Scf.iv c1_i32 c1_i32_56 k0_t1
  let c16_i32 : BitVec 32 := 16#32
  let v138 : BitVec 32 := Scalar.muli arg8 c16_i32
  let v139 : BitVec 32 := v138
  let v140 : Index := Scalar.indexCast v139
  let c0_68 : Index := 0#32
  ![v140.toNat, 0]
abbrev stage0_0 : Fin 1 → Memref sig .tc .vmem S32768x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "log_norm" => some ((-(16 * (Real.log (13176795 / 2097152))) : ℝ) : EReal)
  | _ => none
-- ==== ReferenceIdeal.lean ====
abbrev S32768x32 : Shape := ⟨2, ![32768, 32]⟩
abbrev S2048 : Shape := ⟨1, ![2048]⟩
abbrev S64 : Shape := ⟨1, ![64]⟩
abbrev S64x64 : Shape := ⟨2, ![64, 64]⟩
abbrev S64x32 : Shape := ⟨2, ![64, 32]⟩
abbrev S_ : Shape := ⟨0, ![]⟩
abbrev S32x64 : Shape := ⟨2, ![32, 64]⟩
abbrev S32768x64 : Shape := ⟨2, ![32768, 64]⟩
abbrev S1x64 : Shape := ⟨2, ![1, 64]⟩
abbrev S2048x16x64 : Shape := ⟨3, ![2048, 16, 64]⟩
abbrev S1x16x64 : Shape := ⟨3, ![1, 16, 64]⟩
abbrev S16x64 : Shape := ⟨2, ![16, 64]⟩
abbrev S16 : Shape := ⟨1, ![16]⟩
abbrev S16x1 : Shape := ⟨2, ![16, 1]⟩
abbrev S2047x16x64 : Shape := ⟨3, ![2047, 16, 64]⟩
abbrev S1 : Shape := ⟨1, ![1]⟩

abbrev nBuf : Space → Nat
  | .hbm => 86
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S2048, .i32⟩
  | .hbm, ⟨2, _⟩ => ⟨S64, .f32⟩
  | .hbm, ⟨3, _⟩ => ⟨S64x64, .f32⟩
  | .hbm, ⟨4, _⟩ => ⟨S64x32, .f32⟩
  | .hbm, ⟨5, _⟩ => ⟨S64x32, .f32⟩
  | .hbm, ⟨6, _⟩ => ⟨S_, .f32⟩
  | .hbm, ⟨7, _⟩ => ⟨S64x32, .f32⟩
  | .hbm, ⟨8, _⟩ => ⟨S64x32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x32, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S32768x32, .f32⟩
  | .hbm, ⟨23, _⟩ => ⟨S_, .f32⟩
  | .hbm, ⟨24, _⟩ => ⟨S64x32, .f32⟩
  | .hbm, ⟨25, _⟩ => ⟨S64x32, .f32⟩
  | .hbm, ⟨26, _⟩ => ⟨S32x64, .f32⟩
  | .hbm, ⟨27, _⟩ => ⟨S32768x64, .f32⟩
  | .hbm, ⟨28, _⟩ => ⟨S64x32, .f32⟩
  | .hbm, ⟨29, _⟩ => ⟨S32x64, .f32⟩
  | .hbm, ⟨30, _⟩ => ⟨S32768x64, .f32⟩
  | .hbm, ⟨31, _⟩ => ⟨S32768x64, .f32⟩
  | .hbm, ⟨32, _⟩ => ⟨S64x32, .f32⟩
  | .hbm, ⟨33, _⟩ => ⟨S64x32, .f32⟩
  | .hbm, ⟨34, _⟩ => ⟨S_, .f32⟩
  | .hbm, ⟨35, _⟩ => ⟨S64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S32768x64, .f32⟩
  | .hbm, ⟨41, _⟩ => ⟨S32768x64, .f32⟩
  | .hbm, ⟨42, _⟩ => ⟨S1x64, .f32⟩
  | .hbm, ⟨43, _⟩ => ⟨S32768x64, .f32⟩
  | .hbm, ⟨44, _⟩ => ⟨S32768x64, .f32⟩
  | .hbm, ⟨45, _⟩ => ⟨S32768x64, .f32⟩
  | .hbm, ⟨46, _⟩ => ⟨S2048x16x64, .f32⟩
  | .hbm, ⟨47, _⟩ => ⟨S1x64, .f32⟩
  | .hbm, ⟨48, _⟩ => ⟨S1x16x64, .f32⟩
  | .hbm, ⟨49, _⟩ => ⟨S16x64, .f32⟩
  | .hbm, ⟨50, _⟩ => ⟨S16x64, .f32⟩
  | .hbm, ⟨51, _⟩ => ⟨S16x64, .f32⟩
  | .hbm, ⟨52, _⟩ => ⟨S_, .f32⟩
  | .hbm, ⟨53, _⟩ => ⟨S16, .f32⟩
  | .hbm, ⟨54, _⟩ => ⟨S16x1, .f32⟩
  | .hbm, ⟨55, _⟩ => ⟨S16x64, .f32⟩
  | .hbm, ⟨56, _⟩ => ⟨S16x64, .f32⟩
  | .hbm, ⟨57, _⟩ => ⟨S16x1, .f32⟩
  | .hbm, ⟨58, _⟩ => ⟨S2047x16x64, .f32⟩
  | .hbm, ⟨59, _⟩ => ⟨S_, .i32⟩
  | .hbm, ⟨60, _⟩ => ⟨S2047x16x64, .f32⟩
  | .hbm, ⟨61, _⟩ => ⟨S64x64, .f32⟩
  | .hbm, ⟨62, _⟩ => ⟨S_, .i32⟩
  | .hbm, ⟨63, _⟩ => ⟨S16x64, .f32⟩
  | .hbm, ⟨64, _⟩ => ⟨S16x1, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1x16x64, .f32⟩
  | .hbm, ⟨70, _⟩ => ⟨S16x64, .f32⟩
  | .hbm, ⟨71, _⟩ => ⟨S16x64, .f32⟩
  | .hbm, ⟨72, _⟩ => ⟨S16x64, .f32⟩
  | .hbm, ⟨73, _⟩ => ⟨S_, .f32⟩
  | .hbm, ⟨74, _⟩ => ⟨S16, .f32⟩
  | .hbm, ⟨75, _⟩ => ⟨S16x1, .f32⟩
  | .hbm, ⟨76, _⟩ => ⟨S16x64, .f32⟩
  | .hbm, ⟨77, _⟩ => ⟨S16x64, .f32⟩
  | .hbm, ⟨78, _⟩ => ⟨S16x1, .f32⟩
  | .hbm, ⟨79, _⟩ => ⟨S16x1, .f32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S1, .f32⟩
  | .hbm, ⟨85, _⟩ => ⟨S1, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev main_v44_3 : Ref sig .tc := ⟨.hbm, 63, rfl⟩
abbrev main_v44_4 : Ref sig .tc := ⟨.hbm, 64, rfl⟩
abbrev main_while0c_c_13 : Ref sig .tc := ⟨.hbm, 65, rfl⟩
abbrev main_while0c_v48 : Ref sig .tc := ⟨.hbm, 66, rfl⟩
abbrev main_while0b_call0_c : Ref sig .tc := ⟨.hbm, 67, rfl⟩
abbrev main_while0b_call0_c_0 : Ref sig .tc := ⟨.hbm, 68, rfl⟩
abbrev main_while0b_call0_v0 : Ref sig .tc := ⟨.hbm, 69, rfl⟩
abbrev main_while0b_v48 : Ref sig .tc := ⟨.hbm, 70, rfl⟩
abbrev main_while0b_v49 : Ref sig .tc := ⟨.hbm, 71, rfl⟩
abbrev main_while0b_v50 : Ref sig .tc := ⟨.hbm, 72, rfl⟩
abbrev main_while0b_cst_13 : Ref sig .tc := ⟨.hbm, 73, rfl⟩
abbrev main_while0b_v51 : Ref sig .tc := ⟨.hbm, 74, rfl⟩
abbrev main_while0b_v52 : Ref sig .tc := ⟨.hbm, 75, rfl⟩
abbrev main_while0b_v53 : Ref sig .tc := ⟨.hbm, 76, rfl⟩
abbrev main_while0b_v54 : Ref sig .tc := ⟨.hbm, 77, rfl⟩
abbrev main_while0b_v55 : Ref sig .tc := ⟨.hbm, 78, rfl⟩
abbrev main_while0b_v56 : Ref sig .tc := ⟨.hbm, 79, rfl⟩
abbrev main_while0b_c_14 : Ref sig .tc := ⟨.hbm, 80, rfl⟩
abbrev main_while0b_v57 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩

abbrev nD : Nat := 1
abbrev τ : Topo := Topo.v7x

variable {F : FTy → Type} [FloatOps F]

abbrev main_while0_count : Scf.Loop 32 := ⟨0#32, 2047#32, 1#32⟩
-- ==== Proof.Frames.lean ====
/- Hand-written. The claims that need no values: the programs run, leave their arguments as they were, and end with every
   counter at zero; the kernel's named constant; and the shape facts of the precondition. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import Idealize.ShloMosaic.Adequacy
public import Idealize.ShloMosaic.Init
public import Idealize.ShloMosaic.Lib.Quiescent

@[expose] public section

noncomputable section

namespace Cert.Proof

open Idealize.ShloMosaic Idealize.SL.Sem

/-- The shape facts that the precondition's program states. -/
theorem modelFacts : Cert.Pre_model.Facts where
  bcast_S_S32768x32 := by decide
  bcast_S_S64 := by decide
  reducesTo_S64_S_d0 := by decide
  h_S_ := by decide
  bcast_S_S64x64 := by decide
  reducesTo_S64x64_S64_d1 := by decide
  bcast_S_S64x32 := by decide

/-- The kernel runs, keeps its arguments, and ends with every counter at zero. -/
theorem frame_p : Cert.quiescent_Kernel (hKernel := Cert.Kernel.Gen.facts) := fun m ρ _ =>
  Cert.Kernel.Gen.frame m ρ

/-- The idealized kernel runs, keeps its arguments, and ends with every counter at zero. -/
theorem frame_pi : Cert.quiescent_KernelIdeal (hKernelIdeal := Cert.KernelIdeal.Gen.facts) := fun m ρ _ =>
  Cert.KernelIdeal.Gen.frame m ρ

/-- The reference runs, keeps its arguments, and ends with every counter at zero. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The one constant the idealized kernel names has the value its table gives. -/
theorem preserves : Cert.preserves_Kernel_KernelIdeal :=
  IdealRules.named_const.statement Cert.KernelIdeal.κ "log_norm" .f32 0xC1EB3F8E#32
    ((-(16 * (Real.log (13176795 / 2097152))) : ℝ) : EReal) rfl

end Cert.Proof

end
-- ==== Proof.Rows.lean ====
/-
  The forward filter of one batch row, over the reals. Two ways to run it: the textbook's, which divides by the row's
  total at every step and adds up the logarithms of the totals, and the kernel's, which carries an unnormalised vector,
  divides the emissions by the clamped total of the step before and adds up the logarithms of the clamped totals.
  `carried` is the relation between the two, `ends_alpha` what follows for the rows.
-/
module

public import Idealize.ShloMosaic.PureOps.Ideal
public import Mathlib.Analysis.SpecialFunctions.Log.Basic
public import Mathlib.Tactic.Ring
public import Mathlib.Tactic.FieldSimp

@[expose] public section

noncomputable section

namespace Cert.Proof.Rows

open scoped BigOperators

/-- A row of weights, one for each of the 64 hidden states. -/
abbrev Row := Fin 64 → ℝ

/-- The total of a row. -/
def tot (a : Row) : ℝ := ∑ i, a i

/-- A row divided by its total. -/
def norm (a : Row) : Row := fun j => a j / tot a

/-- One transition by `P`, then the weights `e` of the emissions. -/
def push (P : Fin 64 → Row) (e a : Row) : Row := fun j => (∑ i, a i * P i j) * e j

/-- The starting weights: the initial distribution times the emissions of time 0. -/
def start (p e : Row) : Row := fun j => p j * e j

/-- The textbook's run: the normalised row and the sum of the logarithms of the totals, after `n` steps. -/
def book (P : Fin 64 → Row) (p : Row) (e : ℕ → Row) : ℕ → Row × ℝ
  | 0 => (norm (start p (e 0)), Real.log (tot (start p (e 0))))
  | n + 1 =>
    let s := book P p e n
    (norm (push P (e (n + 1)) s.1), s.2 + Real.log (tot (push P (e (n + 1)) s.1)))

/-- The kernel's run: the unnormalised row and the sum of the logarithms of the totals clamped from below at `κ`. -/
def lazy (κ : ℝ) (P : Fin 64 → Row) (p : Row) (e : ℕ → Row) : ℕ → Row × ℝ
  | 0 => (start p (e 0), 0)
  | n + 1 =>
    let s := lazy κ P p e n
    (push P (fun j => e (n + 1) j / max (tot s.1) κ) s.1, s.2 + Real.log (max (tot s.1) κ))

/-- What the model's numbers satisfy: weights that are not negative, with a positive total in the initial row and in
every row of the transition matrix, and positive emissions. -/
structure Model (P : Fin 64 → Row) (p : Row) (e : ℕ → Row) : Prop where
  p_nonneg : ∀ j, 0 ≤ p j
  p_tot : 0 < tot p
  P_nonneg : ∀ i j, 0 ≤ P i j
  P_tot : ∀ i, 0 < tot (P i)
  e_pos : ∀ n j, 0 < e n j

variable {κ : ℝ} {P : Fin 64 → Row} {p : Row} {e : ℕ → Row}

/-- A row that is not negative and has a positive total has a positive weight somewhere. -/
theorem exists_pos {a : Row} (h : 0 < tot a) : ∃ i, 0 < a i := by
  by_contra hn
  exact absurd h (not_lt.mpr (Finset.sum_nonpos fun i _ => not_lt.mp fun hi => hn ⟨i, hi⟩))

/-- A row that is not negative and has a positive weight has a positive total. -/
theorem tot_pos {a : Row} (h0 : ∀ i, 0 ≤ a i) (h : ∃ i, 0 < a i) : 0 < tot a :=
  let ⟨i, hi⟩ := h
  Finset.sum_pos' (fun i _ => h0 i) ⟨i, Finset.mem_univ i, hi⟩

/-- The starting weights have a positive total. -/
theorem start_tot (H : Model P p e) : 0 < tot (start p (e 0)) := by
  obtain ⟨i, hi⟩ := exists_pos H.p_tot
  exact tot_pos (fun j => mul_nonneg (H.p_nonneg j) (H.e_pos 0 j).le) ⟨i, mul_pos hi (H.e_pos 0 i)⟩

/-- A transition of weights that are not negative is not negative. -/
theorem push_nonneg (H : Model P p e) (n : ℕ) {a : Row} (h0 : ∀ i, 0 ≤ a i) (j : Fin 64) : 0 ≤ push P (e n) a j :=
  mul_nonneg (Finset.sum_nonneg fun i _ => mul_nonneg (h0 i) (H.P_nonneg i j)) (H.e_pos n j).le

/-- A transition of a row with a positive total has a positive total. -/
theorem push_tot (H : Model P p e) (n : ℕ) {a : Row} (h0 : ∀ i, 0 ≤ a i) (h : 0 < tot a) : 0 < tot (push P (e n) a) := by
  obtain ⟨i, hi⟩ := exists_pos h
  obtain ⟨j, hj⟩ := exists_pos (H.P_tot i)
  refine tot_pos (push_nonneg H n h0) ⟨j, mul_pos ?_ (H.e_pos n j)⟩
  exact Finset.sum_pos' (fun i _ => mul_nonneg (h0 i) (H.P_nonneg i j)) ⟨i, Finset.mem_univ i, mul_pos hi hj⟩

/-- The total of a multiple. -/
theorem tot_mul (r : ℝ) (a : Row) : tot (fun j => r * a j) = r * tot a := (Finset.mul_sum ..).symm

/-- A normalised row's total is one. -/
theorem tot_norm {a : Row} (h : 0 < tot a) : tot (norm a) = 1 := by
  unfold norm
  simp only [div_eq_inv_mul]
  rw [tot_mul, inv_mul_cancel₀ h.ne']

/-- The textbook's row is not negative and its total is one. -/
theorem book_row (H : Model P p e) : ∀ n, (∀ i, 0 ≤ (book P p e n).1 i) ∧ tot (book P p e n).1 = 1
  | 0 => ⟨fun i => div_nonneg (mul_nonneg (H.p_nonneg i) (H.e_pos 0 i).le) (start_tot H).le, tot_norm (start_tot H)⟩
  | n + 1 => by
    obtain ⟨h0, h1⟩ := book_row H n
    have ht := push_tot H (n + 1) h0 (by rw [h1]; exact one_pos)
    exact ⟨fun i => div_nonneg (push_nonneg H (n + 1) h0 i) ht.le, tot_norm ht⟩

/-- The total the textbook divides by at step `n + 1` is positive. -/
theorem book_tot (H : Model P p e) (n : ℕ) : 0 < tot (push P (e (n + 1)) (book P p e n).1) :=
  push_tot H (n + 1) (book_row H n).1 (by rw [(book_row H n).2]; exact one_pos)

/-- After every number of steps the kernel's row has a positive total, is that total times the textbook's row, and the
logarithm of the total makes up the difference between the two sums of logarithms. -/
theorem carried (H : Model P p e) (hκ : 0 < κ) : ∀ n, 0 < tot (lazy κ P p e n).1
    ∧ (∀ j, (lazy κ P p e n).1 j = tot (lazy κ P p e n).1 * (book P p e n).1 j)
    ∧ (lazy κ P p e n).2 + Real.log (tot (lazy κ P p e n).1) = (book P p e n).2
  | 0 => ⟨start_tot H, fun j => (mul_div_cancel₀ _ (start_tot H).ne').symm, zero_add _⟩
  | n + 1 => by
    obtain ⟨hr, hu, hl⟩ := carried H hκ n
    have hd := book_tot H n
    set r := tot (lazy κ P p e n).1 with hrd
    set c := max r κ with hc
    have hcp : 0 < c := lt_max_of_lt_right hκ
    set a := push P (e (n + 1)) (book P p e n).1 with ha
    have hnext : (lazy κ P p e (n + 1)).1 = fun j => r / c * a j := by
      funext j
      have hs : ∑ i, (lazy κ P p e n).1 i * P i j = r * ∑ i, (book P p e n).1 i * P i j := by
        rw [Finset.mul_sum]
        exact Finset.sum_congr rfl fun i _ => by rw [hu i]; ring
      show (∑ i, (lazy κ P p e n).1 i * P i j) * (e (n + 1) j / c) = r / c * ((∑ i, (book P p e n).1 i * P i j) * e (n + 1) j)
      rw [hs]; ring
    have ht : tot (lazy κ P p e (n + 1)).1 = r / c * tot a := by rw [hnext, tot_mul]
    have hrc : 0 < r / c := div_pos hr hcp
    refine ⟨by rw [ht]; exact mul_pos hrc hd, fun j => ?_, ?_⟩
    · rw [ht, hnext]
      show r / c * a j = r / c * tot a * (a j / tot a)
      field_simp
    · rw [ht, Real.log_mul hrc.ne' hd.ne', Real.log_div hr.ne' hcp.ne']
      show (lazy κ P p e n).2 + Real.log c + (Real.log r - Real.log c + Real.log (tot a)) = (book P p e n).2 + Real.log (tot a)
      rw [← hl]; ring

/-- The kernel's last row, normalised, is the textbook's. -/
theorem ends_alpha (H : Model P p e) (hκ : 0 < κ) (n : ℕ) : norm (lazy κ P p e n).1 = (book P p e n).1 := by
  obtain ⟨hr, hu, -⟩ := carried H hκ n
  funext j
  unfold norm
  rw [hu j, mul_div_cancel_left₀ _ hr.ne']

/-! ### The emissions -/

/-- The logarithm of a state's emission as the textbook spells it: `L` the logarithm of twice pi. -/
def bookLog (L : ℝ) (x m v : Fin 32 → ℝ) : ℝ :=
  -(1 / 2) * (32 * L + ∑ d, Real.log (v d))
    - ((∑ d, x d * x d * (1 / 2 * (1 / v d)) - ∑ d, x d * (m d * (1 / v d))) + 1 / 2 * ∑ d, m d * m d * (1 / v d))

/-- The same as the kernel spells it. -/
def lazyLog (L : ℝ) (x m v : Fin 32 → ℝ) : ℝ :=
  (∑ d, x d * (m d * (1 / v d)) - ∑ d, x d * x d * (1 / 2 * (1 / v d)))
    + (-(16 * L) - ∑ d, 1 / 2 * (Real.log (v d) + m d * m d * (1 / v d)))

/-- The two spellings are one number. -/
theorem lazyLog_eq (L : ℝ) (x m v : Fin 32 → ℝ) : lazyLog L x m v = bookLog L x m v := by
  unfold lazyLog bookLog
  have h : ∑ d, 1 / 2 * (Real.log (v d) + m d * m d * (1 / v d))
      = 1 / 2 * ∑ d, Real.log (v d) + 1 / 2 * ∑ d, m d * m d * (1 / v d) := by
    rw [Finset.mul_sum, Finset.mul_sum, ← Finset.sum_add_distrib]
    exact Finset.sum_congr rfl fun d _ => by ring
  rw [h]; ring

end Cert.Proof.Rows

end
-- ==== Proof.Reals.lean ====
/-
  The ideal arithmetic at real numbers: every operation the two programs use, of real operands, is the real operation;
  and the literals of the two programs as real numbers.
-/
module

public import Idealize.ShloMosaic.PureOps.Ideal
public import Idealize.ShloMosaic.Lib.IdealHost
public import Mathlib.Analysis.SpecialFunctions.Log.Basic

@[expose] public section

noncomputable section

namespace Cert.Proof.Reals

open Idealize.ShloMosaic
open scoped BigOperators

/-- A finite sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A quotient of reals whose divisor is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal of a real that is not zero. -/
theorem one_div_coe {y : ℝ} (h : y ≠ 0) : Ideal.div 1 (y : EReal) = ((1 / y : ℝ) : EReal) := by
  rw [← EReal.coe_one, div_coe _ h]

/-- The logarithm of a positive real. -/
theorem log_coe {x : ℝ} (h : 0 < x) : Ideal.log (x : EReal) = (Real.log x : EReal) := by
  rw [Ideal.log_coe, if_neg (not_le.mpr h)]

/-- The larger of two reals. -/
theorem max_coe (x y : ℝ) : max (x : EReal) (y : EReal) = ((max x y : ℝ) : EReal) :=
  (EReal.coe_strictMono.monotone.map_max).symm

/-! ### The literals -/

/-- Twice pi as both programs spell it, the nearest number of the format. -/
def tau : ℝ := 13176795 / 2097152

/-- The lower bound at which the kernel clamps a row's total. -/
def floor : ℝ := 8563486 / 2 ^ 149

theorem tau_pos : 0 < tau := by unfold tau; norm_num

theorem floor_pos : 0 < floor := by unfold floor; positivity

theorem ofBits_tau : Ideal.ofBits .f32 0x40C90FDB#32 = (tau : EReal) := by
  unfold tau
  simp [Ideal.ofBits, Ideal.ieee, -EReal.coe_mul]; norm_num

theorem ofBits_floor : Ideal.ofBits .f32 0x0082AB1E#32 = (floor : EReal) := by
  unfold floor
  simp [Ideal.ofBits, Ideal.ieee, -EReal.coe_mul]; norm_num

theorem ofBits_thirtytwo : Ideal.ofBits .f32 0x42000000#32 = ((32 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_top : Ideal.ofBits .f32 0x7F800000#32 = ⊤ := by
  simp [Ideal.ofBits, Ideal.ieee]

end Cert.Proof.Reals

end
-- ==== Proof.Ref.lean ====
/-
  The reference's values, at arguments that are real numbers: its emissions, its first state, one of its trips, and its
  last state, are the textbook's run of every batch row (`Rows.book`).
-/
module

public import proofs.«01_k».proof.Proof.Rows
public import proofs.«01_k».proof.Proof.Reals
public import proofs.«01_k».proof.Proof.Gen.ReferenceIdeal.StepRun
public import Idealize.ShloMosaic.Lib.Pointwise

@[expose] public section

set_option maxRecDepth 16384

noncomputable section

namespace Cert.Proof

open Idealize.ShloMosaic
open scoped BigOperators

/-- The arguments as real numbers: the data's rows, the initial distribution, the transition matrix, and the states' means
and variances. -/
structure Numbers where
  x : Fin 32768 → Fin 32 → ℝ
  p : Rows.Row
  P : Fin 64 → Rows.Row
  mu : Fin 64 → Fin 32 → ℝ
  v : Fin 64 → Fin 32 → ℝ
  v_pos : ∀ j d, 0 < v j d
  p_nonneg : ∀ j, 0 ≤ p j
  p_tot : 0 < Rows.tot p
  P_nonneg : ∀ i j, 0 ≤ P i j
  P_tot : ∀ i, 0 < Rows.tot (P i)

namespace Numbers

variable (N : Numbers)

/-- State `j`'s emission of the data's row `r`. -/
def em (r : Fin 32768) (j : Fin 64) : ℝ := Real.exp (Rows.bookLog (Real.log Reals.tau) (N.x r) (N.mu j) (N.v j))

/-- The data's row of time `t` in batch row `b` (the last time's, for any later one). -/
def row (b : Fin 16) (t : ℕ) : Fin 32768 := ⟨16 * min t 2047 + b.val, by omega⟩

/-- The emissions of batch row `b` at time `t`. -/
def e (b : Fin 16) (t : ℕ) : Rows.Row := N.em (row b t)

/-- What the relation between the two runs asks of the numbers. -/
theorem model (b : Fin 16) : Rows.Model N.P N.p (N.e b) :=
  ⟨N.p_nonneg, N.p_tot, N.P_nonneg, N.P_tot, fun _ _ => Real.exp_pos _⟩

/-- The textbook's run of batch row `b`. -/
def book (b : Fin 16) (n : ℕ) : Rows.Row × ℝ := Rows.book N.P N.p (N.e b) n

/-- The kernel's run of batch row `b`. -/
def lazy (b : Fin 16) (n : ℕ) : Rows.Row × ℝ := Rows.lazy Reals.floor N.P N.p (N.e b) n

end Numbers

end Cert.Proof

namespace Cert.Proof.Ref

open Idealize.ShloMosaic Cert.ReferenceIdeal Cert.ReferenceIdeal.Step
open scoped BigOperators

/-- The arguments hold the numbers. -/
structure Holds (N : Numbers) (a0 : FVec Ideal S32768x32 .f32) (a2 : FVec Ideal S64 .f32) (a3 : FVec Ideal S64x64 .f32)
    (a4 a5 : FVec Ideal S64x32 .f32) : Prop where
  x : ∀ r d, a0 (ix2 r d) = (N.x r d : EReal)
  p : ∀ j, a2 (ix1 j) = (N.p j : EReal)
  P : ∀ i j, a3 (ix2 i j) = (N.P i j : EReal)
  mu : ∀ j d, a4 (ix2 j d) = (N.mu j d : EReal)
  v : ∀ j d, a5 (ix2 j d) = (N.v j d : EReal)

variable {N : Numbers} {a0 : FVec Ideal S32768x32 .f32} {a2 : FVec Ideal S64 .f32} {a3 : FVec Ideal S64x64 .f32}
  {a4 a5 : FVec Ideal S64x32 .f32}

/-- Thirty-two times the logarithm of twice pi. -/
theorem v3_apply : K_main_v6 (F := Ideal) ix0 = ((32 * Real.log Reals.tau : ℝ) : EReal) := by
  show Ideal.ofBits .f32 0x42000000#32 * Ideal.log (Ideal.ofBits .f32 0x40C90FDB#32) = _
  rw [Reals.ofBits_thirtytwo, Reals.ofBits_tau, Reals.log_coe Reals.tau_pos, ← EReal.coe_mul]

/-- The emissions. -/
theorem emissions (H : Holds N a0 a2 a3 a4 a5) (r : Fin 32768) (j : Fin 64) :
    A_main_v31 (F := Ideal) a0 a2 a4 a5 (ix2 r j) = (N.em r j : EReal) := by
  pointwise [A_main_v31, A_main_v30, A_main_v29, A_main_v28, A_main_v27, A_main_v26, A_main_v25, A_main_v23, A_main_v22, A_main_v21, A_main_v20, A_main_v19, A_main_v18, A_main_v17, A_main_v16, A_main_v15, A_main_v14, A_main_v13, A_main_v11, A_main_v10, A_main_v8, A_main_v5, A_main_v4, A_main_v1, K_main_cst, K_main_v0, K_main_cst_2, K_main_v7, K_main_cst_3, K_main_v9, K_main_cst_4, K_main_v12, K_main_cst_5, K_main_cst_6, K_main_v24]
  simp only [v3_apply, H.x, H.mu, H.v, Reals.ofBits_half, Reals.ofBits_neg_half, Reals.one_div_coe (N.v_pos _ _).ne',
    Reals.log_coe (N.v_pos _ _), ← EReal.coe_mul, Reals.sum_coe, ← EReal.coe_add, ← EReal.coe_sub, Ideal.exp_coe]
  rfl

/-- The starting weights. -/
theorem starts (H : Holds N a0 a2 a3 a4 a5) (b : Fin 16) (j : Fin 64) :
    A_main_v37 (F := Ideal) a0 a2 a4 a5 (ix2 b j) = (Rows.start N.p (N.e b 0) j : EReal) := by
  pointwise [A_main_v37, A_main_v36, A_main_v35, A_main_v34, A_main_v33, A_main_v32]
  rw [H.p, emissions H, ← EReal.coe_mul]
  refine congrArg (fun r => ((N.p j * N.em r j : ℝ) : EReal)) (Fin.ext ?_)
  simp only [Numbers.row]; omega

/-- A later time's emissions. -/
theorem later (H : Holds N a0 a2 a3 a4 a5) (k : Fin 2047) (b : Fin 16) (j : Fin 64) :
    A_main_v43 (F := Ideal) a0 a2 a4 a5 (ix3 k b j) = (N.e b (k.val + 1) j : EReal) := by
  pointwise [A_main_v43, A_main_v32]
  rw [emissions H]
  exact congrArg (fun r => (N.em r j : EReal)) (Fin.ext (by simp only [Numbers.row]; omega))

/-- The loop's state after `n` trips holds the textbook's run. -/
structure At (N : Numbers) (n : ℕ) (s : State Ideal) : Prop where
  alpha : ∀ b j, s.main_v44_3 (ix2 b j) = ((N.book b n).1 j : EReal)
  logs : ∀ b, s.main_v44_4 (ix2 b 0) = ((N.book b n).2 : EReal)
  em : ∀ (k : Fin 2047) b j, s.main_v44_0 (ix3 k b j) = (N.e b (k.val + 1) j : EReal)
  P : ∀ i j, s.main_v44_1 (ix2 i j) = (N.P i j : EReal)

/-- The state the first trip is handed. -/
theorem at_zero (H : Holds N a0 a2 a3 a4 a5) : At N 0 (init (F := Ideal) a3 a0 a2 a4 a5) where
  alpha b j := by
    show A_main_v41 (F := Ideal) a0 a2 a4 a5 (ix2 b j) = _
    pointwise [A_main_v41, A_main_v40, A_main_v39, A_main_v38, K_main_cst_7]
    simp only [starts H, Reals.sum_coe]
    exact Reals.div_coe _ (Rows.start_tot (N.model b)).ne'
  logs b := by
    show A_main_v42 (F := Ideal) a0 a2 a4 a5 (ix2 b 0) = _
    pointwise [A_main_v42, A_main_v39, A_main_v38, K_main_cst_7]
    simp only [starts H, Reals.sum_coe]
    exact Reals.log_coe (Rows.start_tot (N.model b))
  em := later H
  P := H.P

/-- A trip's slice of the emissions. -/
theorem slice_apply {n : ℕ} (hn : n < 2047) (s : State Ideal) (b : Fin 16) (j : Fin 64) :
    b3 n s (ix2 b j) = s.main_v44_0 (ix3 ⟨n, hn⟩ b j) := by
  pointwise [b3, b2]
  have hw : (BitVec.ofNat 32 n).toInt = (n : Int) := by
    rw [BitVec.toInt_ofNat', Int.bmod_eq_of_le] <;> omega
  have h0 : Host.clampedStart S2047x16x64 S1x16x64 rfl
      (fun k => BitVec.toInt (![constantI S_ 32 (BitVec.ofNat 32 n), b0 n s, b1 n s] k (Shape.Idx.first Gen.h_S_))) 0 = n :=
    Host.clampedStart_of_le _ _ _ _ hw (by show n + 1 ≤ 2047; omega)
  have h1 : Host.clampedStart S2047x16x64 S1x16x64 rfl
      (fun k => BitVec.toInt (![constantI S_ 32 (BitVec.ofNat 32 n), b0 n s, b1 n s] k (Shape.Idx.first Gen.h_S_))) 1 = 0 :=
    Host.clampedStart_of_le _ _ _ _ rfl (by decide)
  have h2 : Host.clampedStart S2047x16x64 S1x16x64 rfl
      (fun k => BitVec.toInt (![constantI S_ 32 (BitVec.ofNat 32 n), b0 n s, b1 n s] k (Shape.Idx.first Gen.h_S_))) 2 = 0 :=
    Host.clampedStart_of_le _ _ _ _ rfl (by decide)
  refine congrArg s.main_v44_0 ?_
  congr 1
  · exact Fin.ext h0
  · exact Fin.ext ((congrArg (· + b.val) h1).trans (Nat.zero_add _))
  · exact Fin.ext ((congrArg (· + j.val) h2).trans (Nat.zero_add _))

/-- A trip's weights before they are normalised. -/
theorem pushed {n : ℕ} (hn : n < 2047) {s : State Ideal} (h : At N n s) (b : Fin 16) (j : Fin 64) :
    b5 n s (ix2 b j) = (Rows.push N.P (N.e b (n + 1)) (N.book b n).1 j : EReal) := by
  pointwise [b5, b4]
  rw [slice_apply hn, h.em]
  simp only [h.alpha, h.P, ← EReal.coe_mul, Reals.sum_coe]
  rfl

/-- One trip. -/
theorem at_succ {n : ℕ} (hn : n < 2047) {s : State Ideal} (h : At N n s) : At N (n + 1) (step n s) where
  alpha b j := by
    rw [step_main_v44_3]
    pointwise [b10, b9, b8, b7, b6]
    simp only [pushed hn h, Reals.sum_coe]
    exact Reals.div_coe _ (Rows.book_tot (N.model b) n).ne'
  logs b := by
    rw [step_main_v44_4]
    pointwise [b12, b11, b8, b7, b6]
    simp only [pushed hn h, Reals.sum_coe, h.logs]
    exact (congrArg _ (Reals.log_coe (Rows.book_tot (N.model b) n))).trans (EReal.coe_add ..).symm
  em := h.em
  P := h.P

/-- The second result, of a state that holds the run. -/
theorem loss {n : ℕ} {s : State Ideal} (h : At N n s) (i : Fin 1) :
    R_main_v47 s (ix1 i) = ((-∑ b, (N.book b n).2 : ℝ) : EReal) := by
  pointwise [R_main_v47]
  simp only [Finset.univ_unique, Finset.sum_singleton]
  simp only [show (default : Fin 1) = 0 from rfl, h.logs, Reals.sum_coe, ← EReal.coe_neg]

/-- The states of the loop. -/
def states (a0 : FVec Ideal S32768x32 .f32) (a2 : FVec Ideal S64 .f32) (a3 : FVec Ideal S64x64 .f32)
    (a4 a5 : FVec Ideal S64x32 .f32) : ℕ → State Ideal
  | 0 => init (F := Ideal) a3 a0 a2 a4 a5
  | n + 1 => step n (states a0 a2 a3 a4 a5 n)

/-- The state after every number of trips holds the textbook's run. -/
theorem at_all (H : Holds N a0 a2 a3 a4 a5) : ∀ n, n ≤ 2047 → At N n (states a0 a2 a3 a4 a5 n)
  | 0, _ => at_zero H
  | n + 1, hn => at_succ hn (at_all H n (Nat.le_of_succ_le hn))

end Cert.Proof.Ref
-- ==== Proof.KerPay.lean ====
/-
  The kernel's arithmetic, at operands that are real numbers: a chunk's emissions, the first weights, one trip, and the two
  results, are the real numbers of the lazy run (`Rows.lazy`).
-/
module

public import proofs.«01_k».proof.Proof.Ref
public import proofs.«01_k».proof.Proof.Gen.KernelIdeal.Skeleton
public import Idealize.ShloMosaic.Lib.Pointwise

@[expose] public section

set_option maxRecDepth 16384

noncomputable section

namespace Cert.Proof.Ker

open Idealize.ShloMosaic Cert.KernelIdeal Cert.KernelIdeal.Gen
open scoped BigOperators

variable {N : Numbers}

/-- The named constant: minus sixteen times the logarithm of twice pi. -/
theorem log_norm_eq : (Named.named (F := Ideal) (φ := .f32) κ "log_norm" 0xC1EB3F8E#32 : EReal)
    = ((-(16 * Real.log Reals.tau) : ℝ) : EReal) :=
  IdealRules.named_const.ideal_named_scalar _ _ _ _ rfl

/-- The precisions times the means. -/
theorem pay10_apply {v mu : FVec Ideal S64x32 .f32} (hv : ∀ j d, v (ix2 j d) = (N.v j d : EReal))
    (hm : ∀ j d, mu (ix2 j d) = (N.mu j d : EReal)) (j : Fin 64) (d : Fin 32) :
    k0_pay10 (F := Ideal) v mu (ix2 j d) = ((N.mu j d * (1 / N.v j d) : ℝ) : EReal) := by
  pointwise [k0_pay10, k0_pay9]
  rw [hv, hm, Reals.one_div_coe (N.v_pos _ _).ne', ← EReal.coe_mul]

/-- Half the precisions. -/
theorem pay11_apply {v : FVec Ideal S64x32 .f32} (hv : ∀ j d, v (ix2 j d) = (N.v j d : EReal))
    (j : Fin 64) (d : Fin 32) :
    k0_pay11 (F := Ideal) v (ix2 j d) = ((1 / 2 * (1 / N.v j d) : ℝ) : EReal) := by
  pointwise [k0_pay11, k0_pay9]
  rw [hv, Reals.ofBits_half, Reals.one_div_coe (N.v_pos _ _).ne', ← EReal.coe_mul]

/-- The part of a state's emission that does not depend on the data. -/
theorem pay12_apply {v mu : FVec Ideal S64x32 .f32} (hv : ∀ j d, v (ix2 j d) = (N.v j d : EReal))
    (hm : ∀ j d, mu (ix2 j d) = (N.mu j d : EReal)) (i : Fin 1) (j : Fin 64) :
    k0_pay12 (F := Ideal) v mu (ix2 i j)
      = ((-(16 * Real.log Reals.tau)
          - ∑ d, 1 / 2 * (Real.log (N.v j d) + N.mu j d * N.mu j d * (1 / N.v j d)) : ℝ) : EReal) := by
  pointwise [k0_pay12, k0_pay9]
  rw [log_norm_eq]
  simp only [hv, hm, Reals.ofBits_half, Reals.one_div_coe (N.v_pos _ _).ne', Reals.log_coe (N.v_pos _ _), ← EReal.coe_mul,
    ← EReal.coe_add, Reals.sum_coe, ← EReal.coe_sub]

/-- A chunk's emissions: its rows' emissions. -/
theorem chunk {v mu : FVec Ideal S64x32 .f32} (hv : ∀ j d, v (ix2 j d) = (N.v j d : EReal))
    (hm : ∀ j d, mu (ix2 j d) = (N.mu j d : EReal)) {x : FVec Ideal S4096x32 .f32} {f : Fin 4096 → Fin 32768}
    (hx : ∀ r d, x (ix2 r d) = (N.x (f r) d : EReal)) (r : Fin 4096) (j : Fin 64) :
    k0_pay16 (F := Ideal) (k0_pay10 v mu) (k0_pay11 v) (k0_pay12 v mu) x (ix2 r j) = (N.em (f r) j : EReal) := by
  pointwise [k0_pay16]
  simp only [pay10_apply hv hm, pay11_apply hv, pay12_apply hv hm, hx, ← EReal.coe_mul, Reals.sum_coe, ← EReal.coe_sub,
    ← EReal.coe_add, Ideal.exp_coe]
  exact congrArg (fun z => ((Real.exp z : ℝ) : EReal)) (Rows.lazyLog_eq (Real.log Reals.tau) (N.x (f r)) (N.mu j) (N.v j))

/-- The first weights. -/
theorem pay1_apply {p : FVec Ideal S1x64 .f32} (hp : ∀ i j, p (ix2 i j) = (N.p j : EReal)) {u : FVec Ideal S16x64 .f32}
    (hu : ∀ b j, u (ix2 b j) = (N.e b 0 j : EReal)) (b : Fin 16) (j : Fin 64) :
    k0_pay1 (F := Ideal) (k0_pay24 p) u (ix2 b j) = ((N.lazy b 0).1 j : EReal) := by
  pointwise [k0_pay1, k0_pay24]
  rw [hp, hu, ← EReal.coe_mul]
  rfl

/-- The weights and the sum of logarithms after `n` steps of the lazy run. -/
structure At (N : Numbers) (n : ℕ) (s : FVec Ideal S16x64 .f32 × FVec Ideal S16x1 .f32) : Prop where
  row : ∀ b j, s.1 (ix2 b j) = ((N.lazy b n).1 j : EReal)
  log : ∀ b i, s.2 (ix2 b i) = ((N.lazy b n).2 : EReal)

/-- The clamped total of a row. -/
theorem pay3_apply {n : ℕ} {s : FVec Ideal S16x64 .f32 × FVec Ideal S16x1 .f32} (h : At N n s) (b : Fin 16) (i : Fin 1) :
    k0_pay3 (F := Ideal) s.1 (ix2 b i) = ((max (Rows.tot (N.lazy b n).1) Reals.floor : ℝ) : EReal) := by
  pointwise [k0_pay3]
  simp only [h.row, Reals.sum_coe, Reals.ofBits_floor]
  exact Reals.max_coe _ _

/-- The clamped total is positive. -/
theorem clamp_pos (n : ℕ) (b : Fin 16) : 0 < max (Rows.tot (N.lazy b n).1) Reals.floor :=
  lt_max_of_lt_right Reals.floor_pos

/-- A sum over the states is the sum over the first half and the sum over the second. -/
theorem halves (g : Fin 64 → ℝ) : (∑ k : Fin 32, g ⟨k.val, by omega⟩) + ∑ k : Fin 32, g ⟨32 + k.val, by omega⟩ = ∑ k, g k :=
  (Fin.sum_univ_add (a := 32) (b := 32) g).symm

/-- A trip's weights. -/
theorem pay4_apply {n : ℕ} {s : FVec Ideal S16x64 .f32 × FVec Ideal S16x1 .f32} (h : At N n s)
    {P : FVec Ideal S64x64 .f32} (hP : ∀ i j, P (ix2 i j) = (N.P i j : EReal)) {u : FVec Ideal S16x64 .f32}
    (hu : ∀ b j, u (ix2 b j) = (N.e b (n + 1) j : EReal)) (b : Fin 16) (j : Fin 64) :
    k0_pay4 (F := Ideal) (k0_pay22 P) (k0_pay23 P) s.1 u (ix2 b j) = ((N.lazy b (n + 1)).1 j : EReal) := by
  pointwise [k0_pay4, k0_pay22, k0_pay23]
  simp only [pay3_apply h, h.row, hP, hu, Reals.div_coe _ (clamp_pos n b).ne', ← EReal.coe_mul, Reals.sum_coe, ← EReal.coe_add]
  refine congrArg (fun z : ℝ => ((z * _ : ℝ) : EReal)) ?_
  exact halves fun k => (N.lazy b n).1 k * N.P k j

/-- A trip's sum of logarithms. -/
theorem pay5_apply {n : ℕ} {s : FVec Ideal S16x64 .f32 × FVec Ideal S16x1 .f32} (h : At N n s) (b : Fin 16) (i : Fin 1) :
    k0_pay5 (F := Ideal) s.1 s.2 (ix2 b i) = ((N.lazy b (n + 1)).2 : EReal) := by
  pointwise [k0_pay5]
  rw [pay3_apply h, Reals.log_coe (clamp_pos n b), h.log, ← EReal.coe_add]
  rfl

/-- A row's total. -/
theorem pay6_apply {n : ℕ} {s : FVec Ideal S16x64 .f32 × FVec Ideal S16x1 .f32} (h : At N n s) (b : Fin 16) (i : Fin 1) :
    k0_pay6 (F := Ideal) s.1 (ix2 b i) = (Rows.tot (N.lazy b n).1 : EReal) := by
  pointwise [k0_pay6]
  simp only [h.row, Reals.sum_coe]
  rfl

/-- What the relation between the two runs says of batch row `b` after `n` steps. -/
theorem carried (N : Numbers) (b : Fin 16) (n : ℕ) : 0 < Rows.tot (N.lazy b n).1
    ∧ (∀ j, (N.lazy b n).1 j = Rows.tot (N.lazy b n).1 * (N.book b n).1 j)
    ∧ (N.lazy b n).2 + Real.log (Rows.tot (N.lazy b n).1) = (N.book b n).2 :=
  Rows.carried (N.model b) Reals.floor_pos n

/-- The first result is the textbook's row. -/
theorem pay7_apply {n : ℕ} {s : FVec Ideal S16x64 .f32 × FVec Ideal S16x1 .f32} (h : At N n s) (b : Fin 16) (j : Fin 64) :
    k0_pay7 (F := Ideal) s.1 (ix2 b j) = ((N.book b n).1 j : EReal) := by
  pointwise [k0_pay7]
  rw [pay6_apply h, h.row, Reals.div_coe _ (carried N b n).1.ne']
  exact congrArg (fun r : Rows.Row => (r j : EReal)) (Rows.ends_alpha (N.model b) Reals.floor_pos n)

/-- The second result is minus the sum of the textbook's logarithms. -/
theorem pay8_apply {n : ℕ} {s : FVec Ideal S16x64 .f32 × FVec Ideal S16x1 .f32} (h : At N n s) (i j : Fin 1) :
    k0_pay8 (F := Ideal) s.1 s.2 (ix2 i j) = ((-∑ b, (N.book b n).2 : ℝ) : EReal) := by
  pointwise [k0_pay8]
  simp only [pay6_apply h, h.log, Reals.log_coe (carried N _ n).1, Finset.univ_unique, Finset.sum_singleton, Reals.sum_coe, ← EReal.coe_add, ← EReal.coe_zero, ← EReal.coe_sub]
  refine congrArg (fun z : ℝ => (z : EReal)) ?_
  rw [zero_sub, ← Finset.sum_add_distrib]
  exact congrArg Neg.neg (Finset.sum_congr rfl fun b _ => (carried N b n).2.2)

end Cert.Proof.Ker
-- ==== Proof.KerRun.lean ====
/-
  What the kernel's body leaves, at input blocks that hold the numbers: the emissions it keeps in its scratch memory, the
  weights and logarithms its loop carries, and its two results.
-/
module

public import proofs.«01_k».proof.Proof.KerPay
public import proofs.«01_k».proof.Proof.Gen.KernelIdeal.Frame
public import Idealize.ShloMosaic.Lib.Pipeline.Value

@[expose] public section

set_option maxRecDepth 16384

noncomputable section

namespace Cert.Proof.Ker

open Idealize.ShloMosaic Idealize.ShloMosaic.TcCoe Idealize.ShloMosaic.Tactic
open Cert.KernelIdeal Cert.KernelIdeal.Gen

/-- The input blocks hold the numbers. -/
structure Holds (N : Numbers) (x0 : FVec Ideal S32768x32 .f32) (x1 : FVec Ideal S1x64 .f32) (x2 : FVec Ideal S64x64 .f32)
    (x3 x4 : FVec Ideal S64x32 .f32) : Prop where
  x : ∀ r d, x0 (ix2 r d) = (N.x r d : EReal)
  p : ∀ i j, x1 (ix2 i j) = (N.p j : EReal)
  P : ∀ i j, x2 (ix2 i j) = (N.P i j : EReal)
  mu : ∀ j d, x3 (ix2 j d) = (N.mu j d : EReal)
  v : ∀ j d, x4 (ix2 j d) = (N.v j d : EReal)

/-- The emissions as the scratch memory holds them: at every row of the data and every state. -/
def kept (N : Numbers) : FVec Ideal S32768x64 .f32 := fun y => (N.em (y 0) (y 1) : EReal)

theorem zero2 : (![0, 0] : Fin 2 → ℕ) = fun _ => 0 := by funext a; fin_cases a <;> rfl

/-- A load of a whole block reads it. -/
theorem load_whole {a b : ℕ} {arg : Memref sig .tc .vmem ⟨2, ![a, b]⟩ .f32} (harg : arg.IsWhole) (x : FVec Ideal ⟨2, ![a, b]⟩ .f32)
    (inb : ∀ i, (![0, 0] : Fin 2 → ℕ) i + (![a, b] : Fin 2 → ℕ) i ≤ (⟨2, ![a, b]⟩ : Shape).size i) :
    arg.view.readAt (Elt Ideal) (Rect.unit (s := ⟨2, ![a, b]⟩) ![0, 0] ![a, b] inb).toLoadRect (harg.unread x) = x := by
  rw [View.readAt_eq_ld, harg.read_unread]
  exact View.ld_unit_zero (Val := Elt Ideal) (e := .f32) (S := ⟨2, ![a, b]⟩) zero2 inb x

/-- A load of rows from row `o` reads them. -/
theorem load_rows {a b n o : ℕ} {arg : Memref sig .tc .vmem ⟨2, ![a, b]⟩ .f32} (harg : arg.IsWhole)
    (x : FVec Ideal ⟨2, ![a, b]⟩ .f32)
    (inb : ∀ i, (![o, 0] : Fin 2 → ℕ) i + (![n, b] : Fin 2 → ℕ) i ≤ (⟨2, ![a, b]⟩ : Shape).size i)
    (r : Fin n) (d : Fin b) (hr : o + r.val < a) :
    arg.view.readAt (Elt Ideal) (Rect.unit (s := ⟨2, ![a, b]⟩) ![o, 0] ![n, b] inb).toLoadRect (harg.unread x) (ix2 r d)
      = x (ix2 ⟨o + r.val, hr⟩ d) := by
  rw [View.readAt_eq_ld, harg.read_unread]
  refine congrArg x (funext fun i => Fin.ext ?_)
  match i with
  | ⟨0, _⟩ => show o + 1 * r.val = o + r.val; omega
  | ⟨1, _⟩ => show 0 + 1 * d.val = d.val; omega

section

variable {N : Numbers} (c : Dev nD)
    (arg0 : Memref sig .tc .vmem S32768x32 .f32) (harg0 : arg0.IsWhole) (arg1 : Memref sig .tc .vmem S1x64 .f32) (harg1 : arg1.IsWhole)
    (arg2 : Memref sig .tc .vmem S64x64 .f32) (harg2 : arg2.IsWhole) (arg3 : Memref sig .tc .vmem S64x32 .f32) (harg3 : arg3.IsWhole)
    (arg4 : Memref sig .tc .vmem S64x32 .f32) (harg4 : arg4.IsWhole) (arg5 : Memref sig .tc .vmem S16x64 .f32) (harg5 : arg5.IsWhole)
    (arg6 : Memref sig .tc .vmem S1x1 .f32) (harg6 : arg6.IsWhole) (arg7 : Memref sig .tc .vmem S32768x64 .f32) (harg7 : arg7.IsWhole)
    {x0 : FVec Ideal S32768x32 .f32} {x1 : FVec Ideal S1x64 .f32} {x2 : FVec Ideal S64x64 .f32} {x3 x4 : FVec Ideal S64x32 .f32}

/-- A chunk of rows from row `o`, at an index of the chunk, is the emissions kept there. -/
theorem chunk_kept (H : Holds N x0 x1 x2 x3 x4) {o : ℕ} (ho : o + 4096 ≤ 32768)
    (inb : ∀ i, (![o, 0] : Fin 2 → ℕ) i + (![4096, 32] : Fin 2 → ℕ) i ≤ S32768x32.size i)
    (inb' : ∀ i, (![o, 0] : Fin 2 → ℕ) i + (![4096, 64] : Fin 2 → ℕ) i ≤ S32768x64.size i) (y : S4096x64.Idx) :
    k0_pay16 (F := Ideal) (k0_pay10 x4 x3) (k0_pay11 x4) (k0_pay12 x4 x3)
        (arg0.view.readAt (Elt Ideal) (Rect.unit (s := S32768x32) ![o, 0] ![4096, 32] inb).toLoadRect (harg0.unread x0)) y
      = kept N ((Rect.unit (s := S32768x64) ![o, 0] ![4096, 64] inb').emb y) := by
  obtain ⟨r, j, rfl⟩ : ∃ (r : Fin 4096) (j : Fin 64), y = ix2 r j := ⟨y 0, y 1, ValueIdx.eq_ix2 y⟩
  rw [chunk H.v H.mu (f := fun r : Fin 4096 => (⟨o + r.val, by omega⟩ : Fin 32768))
    (fun r d => (load_rows harg0 x0 inb r d (by omega)).trans (H.x _ _)) r j]
  unfold kept
  congr 1
  refine congr (congrArg N.em (Fin.ext ?_)) (Fin.ext ?_)
  · show o + r.val = o + 1 * r.val; omega
  · show j.val = 0 + 1 * j.val; omega

/-- The eight chunks: what the scratch memory holds at every index. -/
theorem canon_kept (H : Holds N x0 x1 x2 x3 x4) (y : S32768x64.Idx) :
    View.canon (kernelRun0_A.sl.HS0_8 (F := Ideal) c arg0 harg0 arg3 harg3 arg4 harg4 x0 x3 x4) y = kept N y := by
  refine View.canon_apply_of_pieces (kept N) _ ?_ y
    (View.cover_of_tiledL (kernelRun0_A.sl.HS0_8 (F := Ideal) c arg0 harg0 arg3 harg3 arg4 harg4 x0 x3 x4) S4096x64.size (by sl_kernel_rfl) y)
  sl_unfold_words
  simp only [List.forall_mem_cons, load_whole]
  exact ⟨chunk_kept arg0 harg0 H (by norm_num) _ _, chunk_kept arg0 harg0 H (by norm_num) _ _,
    chunk_kept arg0 harg0 H (by norm_num) _ _, chunk_kept arg0 harg0 H (by norm_num) _ _,
    chunk_kept arg0 harg0 H (by norm_num) _ _, chunk_kept arg0 harg0 H (by norm_num) _ _,
    chunk_kept arg0 harg0 H (by norm_num) _ _, chunk_kept arg0 harg0 H (by norm_num) _ _,
    fun _ h => absurd h List.not_mem_nil⟩

/-- What is kept at row `16 n + b`: batch row `b`'s emissions at time `n`. -/
theorem kept_apply {y : S32768x64.Idx} {n : ℕ} (hn : n ≤ 2047) {b : Fin 16} {j : Fin 64} (h0 : (y 0).val = 16 * n + b.val)
    (h1 : (y 1).val = j.val) : kept N y = (N.e b n j : EReal) := by
  unfold kept Numbers.e
  congr 1
  refine congr (congrArg N.em (Fin.ext ?_)) (Fin.ext h1)
  show (y 0).val = 16 * min n 2047 + b.val
  omega

/-- A trip's load: the batch rows' emissions at the trip's time. -/
theorem trip_load {X : arg7.view.ty.Contents (Elt Ideal)} (hX : ∀ y, arg7.view.read (Elt Ideal) X y = kept N y)
    (k : Fin k0_t1_loop.trips) (b : Fin 16) (j : Fin 64) :
    arg7.view.readAt (Elt Ideal) (Rect.unit (s := S32768x64) (k0_off1 k) S16x64.size (k0_off1_inb k)).toLoadRect X (ix2 b j)
      = (N.e b (k.val + 1) j : EReal) := by
  have hk : k.val < 2047 := Nat.lt_of_lt_of_le k.isLt k0_t1_abs.2.1
  rw [View.readAt_apply]
  refine (hX _).trans (kept_apply (by omega) ?_ ?_)
  · show k0_off1 k 0 + 1 * b.val = _
    rw [k0_off1_eq]
    show 16 * k.val + 16 + 1 * b.val = _
    omega
  · show k0_off1 k 1 + 1 * j.val = _
    rw [k0_off1_eq]
    show 0 + 1 * j.val = _
    omega

/-- The loop's carried values before every trip, and after the last, are the lazy run's. -/
theorem carried_at (H : Holds N x0 x1 x2 x3 x4) {X : arg7.view.ty.Contents (Elt Ideal)}
    (hX : ∀ y, arg7.view.read (Elt Ideal) X y = kept N y) {u : FVec Ideal S16x64 .f32}
    (hu : ∀ b j, u (ix2 b j) = (N.e b 0 j : EReal)) : ∀ n, n ≤ k0_t1_loop.trips →
    At N n (st_k0_t1 (F := Ideal) Variants.none c none arg0 harg0 arg1 harg1 arg2 harg2 arg3 harg3 arg4 harg4 arg5 harg5
      arg6 harg6 arg7 harg7 (k0_pay22 x2) (k0_pay23 x2) X (k0_pay1 (k0_pay24 x1) u, k0_pay2) n)
  | 0, _ => by
    rw [st_k0_t1_zero]
    exact ⟨pay1_apply H.p hu, fun b i => by pointwise [k0_pay2]; rfl⟩
  | n + 1, hn => by
    have h := carried_at H hX hu n (Nat.le_of_succ_le hn)
    rw [st_k0_t1_succ Variants.none c none arg0 harg0 arg1 harg1 arg2 harg2 arg3 harg3 arg4 harg4 arg5 harg5
      arg6 harg6 arg7 harg7 (k0_pay22 x2) (k0_pay23 x2) X (k0_pay1 (k0_pay24 x1) u, k0_pay2) ⟨n, hn⟩]
    unfold tripR_k0_t1 trip_k0_t1
    exact ⟨fun b j => pay4_apply h H.P (trip_load arg7 hX ⟨n, hn⟩) b j, fun b i => pay5_apply h b i⟩

/-- The scratch memory after the eight chunks, whatever it held before. -/
theorem scratch (H : Holds N x0 x1 x2 x3 x4) (y : S32768x64.Idx) :
    arg7.view.read (Elt Ideal) (arg7.view.writes (Elt Ideal) arg7.view.junk
      (kernelRun0_A.sl.HS0_8 (F := Ideal) c arg0 harg0 arg3 harg3 arg4 harg4 x0 x3 x4)) y = kept N y :=
  (View.read_writes_junk_apply_eq_canon arg7.view y _).trans (canon_kept c arg0 harg0 arg3 harg3 arg4 harg4 H y)

/-- The first load of the scratch memory: the batch rows' emissions at the first time. -/
theorem first_load (H : Holds N x0 x1 x2 x3 x4) (b : Fin 16) (j : Fin 64) :
    arg7.view.readCov (kernelRun0_A.sl.HS0_8 (F := Ideal) c arg0 harg0 arg3 harg3 arg4 harg4 x0 x3 x4)
      (Rect.unit (s := S32768x64) ![0, 0] ![16, 64] inb_S32768x64_S16x64_0_0).toLoadRect (ix2 b j) = (N.e b 0 j : EReal) := by
  rw [View.readCov_eq_canon']
  refine (canon_kept c arg0 harg0 arg3 harg3 arg4 harg4 H _).trans (kept_apply (by omega) ?_ ?_)
  · show 0 + 1 * b.val = _; omega
  · show 0 + 1 * j.val = _; omega

/-- The loop runs 2047 trips. -/
theorem trips_eq : Scf.trips (1#32) (Scalar.addi 1#32 2047#32) 1#32 = 2047 := by decide +kernel

/-- The body's loop, after its last trip. -/
theorem carried_last (H : Holds N x0 x1 x2 x3 x4) :
    At N 2047 (st_k0_t1 (F := Ideal) Variants.none c none arg0 harg0 arg1 harg1 arg2 harg2 arg3 harg3 arg4 harg4 arg5 harg5
      arg6 harg6 arg7 harg7 (kernelRun0_A.sl.r_5 c arg2 harg2 x2) (kernelRun0_A.sl.r_6 c arg2 harg2 x2)
      (arg7.view.writes (Elt Ideal) arg7.view.junk (kernelRun0_A.sl.HS0_8 c arg0 harg0 arg3 harg3 arg4 harg4 x0 x3 x4))
      (k0_pay1 (kernelRun0_A.sl.r_7 c arg1 harg1 x1) (kernelRun0_A.sl.v110 c arg0 harg0 arg3 harg3 arg4 harg4 arg7 x0 x3 x4),
        k0_pay2) (Scf.trips (1#32) (Scalar.addi 1#32 2047#32) 1#32)) := by
  rw [trips_eq]
  unfold kernelRun0_A.sl.r_5 kernelRun0_A.sl.r_6 kernelRun0_A.sl.r_7 kernelRun0_A.sl.v110
  simp only [load_whole]
  exact carried_at c arg0 harg0 arg1 harg1 arg2 harg2 arg3 harg3 arg4 harg4 arg5 harg5 arg6 harg6 arg7 harg7
    H (scratch c arg0 harg0 arg3 harg3 arg4 harg4 arg7 H) (first_load c arg0 harg0 arg3 harg3 arg4 harg4 arg7 H) 2047 trips_eq.ge

/-- The first result's block: the textbook's rows after the last time. -/
theorem out_alpha (H : Holds N x0 x1 x2 x3 x4) (b : Fin 16) (j : Fin 64) :
    out0_A_5 (F := Ideal) c arg0 harg0 arg1 harg1 arg2 harg2 arg3 harg3 arg4 harg4 arg5 harg5 arg6 harg6 arg7 harg7
      x0 x1 x2 x3 x4 (ix2 b j) = ((N.book b 2047).1 j : EReal) := by
  unfold out0_A_5
  rw [View.read_writes_junk_eq_canon]
  unfold kernelRun0_A
  dsimp only
  rw [View.canon_unit_zero zero2]
  exact pay7_apply (carried_last c arg0 harg0 arg1 harg1 arg2 harg2 arg3 harg3 arg4 harg4 arg5 harg5 arg6 harg6 arg7 harg7 H) b j

/-- The second result's block: minus the sum of the textbook's logarithms. -/
theorem out_loss (H : Holds N x0 x1 x2 x3 x4) (i j : Fin 1) :
    out0_A_6 (F := Ideal) c arg0 harg0 arg1 harg1 arg2 harg2 arg3 harg3 arg4 harg4 arg5 harg5 arg6 harg6 arg7 harg7
      x0 x1 x2 x3 x4 (ix2 i j) = ((-∑ b, (N.book b 2047).2 : ℝ) : EReal) := by
  unfold out0_A_6
  rw [View.read_writes_junk_eq_canon]
  unfold kernelRun0_A
  dsimp only
  rw [View.canon_unit_zero zero2]
  exact pay8_apply (carried_last c arg0 harg0 arg1 harg1 arg2 harg2 arg3 harg3 arg4 harg4 arg5 harg5 arg6 harg6 arg7 harg7 H) i j

end

end Cert.Proof.Ker

end
-- ==== Proof.KerVal.lean ====
/-
  The kernel's run: at arguments that hold the numbers, its two result arrays end holding the textbook's rows after the last
  time and minus the sum of the textbook's logarithms.
-/
module

public import proofs.«01_k».proof.Proof.KerRun
public import Idealize.ShloMosaic.Lib.Pipeline.ValueKit.Geometry

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The data's block is the first argument. -/
theorem block0 (c : Dev nD) (t : Fin cfg0.N) (r : Fin 32768) (d : Fin 32) :
    (iblk m c 0 t : FVec Ideal S32768x32 .f32) (ix2 r d) = m ((c : Thread nD τ).loc main_arg0) (ix2 r d) := by
  unfold iblk
  rw [View.read_apply]
  show V m c main_arg0 _ = _
  rw [V_main_arg0]
  exact congrArg (m ((c : Thread nD τ).loc main_arg0)) (funext fun a => Fin.ext
    (Pipeline.Window.rect_emb_val_of_index_zero win0_0 t a (by match a with | ⟨0, _⟩ => rfl | ⟨1, _⟩ => rfl) (ix2 r d)))

/-- The transition matrix's block is the fourth argument. -/
theorem block2 (c : Dev nD) (t : Fin cfg0.N) (i : Fin 64) (j : Fin 64) :
    (iblk m c 2 t : FVec Ideal S64x64 .f32) (ix2 i j) = m ((c : Thread nD τ).loc main_arg3) (ix2 i j) := by
  unfold iblk
  rw [View.read_apply]
  show V m c main_arg3 _ = _
  rw [V_main_arg3]
  exact congrArg (m ((c : Thread nD τ).loc main_arg3)) (funext fun a => Fin.ext
    (Pipeline.Window.rect_emb_val_of_index_zero win0_2 t a (by match a with | ⟨0, _⟩ => rfl | ⟨1, _⟩ => rfl) (ix2 i j)))

/-- The means' block is the fifth argument. -/
theorem block3 (c : Dev nD) (t : Fin cfg0.N) (j : Fin 64) (d : Fin 32) :
    (iblk m c 3 t : FVec Ideal S64x32 .f32) (ix2 j d) = m ((c : Thread nD τ).loc main_arg4) (ix2 j d) := by
  unfold iblk
  rw [View.read_apply]
  show V m c main_arg4 _ = _
  rw [V_main_arg4]
  exact congrArg (m ((c : Thread nD τ).loc main_arg4)) (funext fun a => Fin.ext
    (Pipeline.Window.rect_emb_val_of_index_zero win0_3 t a (by match a with | ⟨0, _⟩ => rfl | ⟨1, _⟩ => rfl) (ix2 j d)))

/-- The variances' block is the sixth argument. -/
theorem block4 (c : Dev nD) (t : Fin cfg0.N) (j : Fin 64) (d : Fin 32) :
    (iblk m c 4 t : FVec Ideal S64x32 .f32) (ix2 j d) = m ((c : Thread nD τ).loc main_arg5) (ix2 j d) := by
  unfold iblk
  rw [View.read_apply]
  show V m c main_arg5 _ = _
  rw [V_main_arg5]
  exact congrArg (m ((c : Thread nD τ).loc main_arg5)) (funext fun a => Fin.ext
    (Pipeline.Window.rect_emb_val_of_index_zero win0_4 t a (by match a with | ⟨0, _⟩ => rfl | ⟨1, _⟩ => rfl) (ix2 j d)))

/-- The initial distribution as the kernel is handed it: one row, the third argument. -/
theorem initial_row (c : Dev nD) (i : Fin 1) (j : Fin 64) :
    (V m c main_v0 : FVec Ideal S1x64 .f32) (ix2 i j) = m ((c : Thread nD τ).loc main_arg2) (ix1 j) := by
  show StableHlo.after hostOps0 (fun b => m (c, b)) (Proc.devRef .tc main_v0) (ix2 i j) = _
  rw [StableHlo.after_cons, StableHlo.after_nil]
  refine (congrFun (StableHlo.reshape_result main_arg2 main_v0 rfl shapeCasts_S64_S1x64 _ _ _) _).trans ?_
  show shapeCast S1x64 (m ((c : Thread nD τ).loc main_arg2)) shapeCasts_S64_S1x64 (ix2 i j) = _
  pointwise

/-- The initial distribution's block. -/
theorem block1 (c : Dev nD) (t : Fin cfg0.N) (i : Fin 1) (j : Fin 64) :
    (iblk m c 1 t : FVec Ideal S1x64 .f32) (ix2 i j) = m ((c : Thread nD τ).loc main_arg2) (ix1 j) := by
  unfold iblk
  rw [View.read_apply]
  show V m c main_v0 _ = _
  refine (congrArg (V m c main_v0) (funext fun a => Fin.ext
    (Pipeline.Window.rect_emb_val_of_index_zero win0_1 t a (by match a with | ⟨0, _⟩ => rfl | ⟨1, _⟩ => rfl) (ix2 i j)))).trans ?_
  exact initial_row m c i j

/-- The arguments of core `c` hold the numbers. -/
def Args (N : Numbers) (c : Dev nD) : Prop :=
  Ref.Holds N (m ((c : Thread nD τ).loc main_arg0)) (m ((c : Thread nD τ).loc main_arg2))
    (m ((c : Thread nD τ).loc main_arg3)) (m ((c : Thread nD τ).loc main_arg4)) (m ((c : Thread nD τ).loc main_arg5))

variable {m} in
/-- Then the blocks hold them. -/
theorem holds {N : Numbers} {c : Dev nD} (H : Args m N c) (t : Fin cfg0.N) :
    Holds N (iblk m c 0 t) (iblk m c 1 t) (iblk m c 2 t) (iblk m c 3 t) (iblk m c 4 t) where
  x r d := (block0 m c t r d).trans (H.x r d)
  p i j := (block1 m c t i j).trans (H.p j)
  P i j := (block2 m c t i j).trans (H.P i j)
  mu j d := (block3 m c t j d).trans (H.mu j d)
  v j d := (block4 m c t j d).trans (H.v j d)

/-- The first result: the textbook's rows after the last time. -/
def alphas (N : Numbers) : FVec Ideal S16x64 .f32 := fun y => ((N.book (y 0) 2047).1 (y 1) : EReal)

/-- The second result: minus the sum of the textbook's logarithms. -/
def losses (N : Numbers) : FVec Ideal S1 .f32 := fun _ => ((-∑ b, (N.book b 2047).2 : ℝ) : EReal)

/-- The same as the kernel writes it, an array of one row and one column. -/
def losses' (N : Numbers) : FVec Ideal S1x1 .f32 := fun _ => ((-∑ b, (N.book b 2047).2 : ℝ) : EReal)

/-- The kernel's only grid point. -/
def point : Fin cfg0.N := ⟨0, by decide⟩

variable {m} in
/-- What the body leaves in the first result's block. -/
theorem body5 {N : Numbers} {c : Dev nD} (H : Args m N c) (t : Fin cfg0.N) : (outsAt0 m c t).1 = alphas N := by
  funext y
  rw [ValueIdx.eq_ix2 y]
  exact out_alpha c _ (hs0_0 t) _ (hs0_1 t) _ (hs0_2 t) _ (hs0_3 t) _ (hs0_4 t) _ (hs0_5 t) _ (hs0_6 t)
    scM0_0 (Memref.isWhole_whole _) (holds H t) (y 0) (y 1)

variable {m} in
/-- What the body leaves in the second result's block. -/
theorem body6 {N : Numbers} {c : Dev nD} (H : Args m N c) (t : Fin cfg0.N) : (outsAt0 m c t).2 = losses' N := by
  funext y
  rw [ValueIdx.eq_ix2 y]
  exact out_loss c _ (hs0_0 t) _ (hs0_1 t) _ (hs0_2 t) _ (hs0_3 t) _ (hs0_4 t) _ (hs0_5 t) _ (hs0_6 t)
    scM0_0 (Memref.isWhole_whole _) (holds H t) (y 0) (y 1)

variable {m} in
/-- The first result's array after the run. -/
theorem array5 {N : Numbers} {c : Dev nD} (H : Args m N c) : (dats m 0 c).arrAt 5 cfg0.N = alphas N := by
  refine Pipeline.Dat.arrAt_eq_of_after_last (dats m 0 c) 5 point (by decide +kernel) (alphas N) fun j => ?_
  rw [after0_5, body5 H]
  rfl

variable {m} in
/-- The second result's array after the run. -/
theorem array6 {N : Numbers} {c : Dev nD} (H : Args m N c) : (dats m 0 c).arrAt 6 cfg0.N = losses' N := by
  refine Pipeline.Dat.arrAt_eq_of_after_last (dats m 0 c) 6 point (by decide +kernel) (losses' N) fun j => ?_
  rw [after0_6, body6 H]
  rfl

variable {m} in
/-- The line after the kernel makes one number of that array. -/
theorem tail {N : Numbers} {c : Dev nD} (H : Args m N c) :
    Pipeline.afterTail₀ cfgs (dats m) 0 (V0 m) [hostOps1] c main_v2 = losses N := by
  show StableHlo.after hostOps1 (Pipeline.withArrays spec0 c (V0 m c) fun w => (dats m 0 c).arrAt w cfg0.N)
    (Proc.devRef .tc main_v2) = _
  rw [StableHlo.after_cons, StableHlo.after_nil]
  refine (StableHlo.reshape_result main_v1_1 main_v2 rfl shapeCasts_S1x1_S1 _ _ _).trans ?_
  have e : Pipeline.withArrays spec0 c (V0 m c) (fun w => (dats m 0 c).arrAt w cfg0.N) (Proc.devRef .tc main_v1_1) = losses' N :=
    (Pipeline.withArrays_arr spec0 (by decide) c (V0 m c) (fun w => (dats m 0 c).arrAt w cfg0.N) 6).trans (array6 H)
  rw [e]
  rfl

/-- The kernel's run from arguments that hold the numbers: the two results, and the arguments as they were. -/
theorem run (N : Dev nD → Numbers) (H : ∀ c, Args m (N c) c) :
    θ_run defs (onTc (τ := τ) (main (F := Ideal))) ⟨m, fun _ => 0, ρ⟩ (fun r => ∀ c : Dev nD,
      r.2.mem ((c.tc : Thread nD τ).loc main_v1_0) = alphas (N c)
      ∧ r.2.mem ((c.tc : Thread nD τ).loc main_v2) = losses (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.1 c).1 5).trans (array5 (H c)),
      ((h.1 c).2 main_v2 (Pipeline.mem_restRefs_of main_v2 (by decide) (by decide))).trans (tail (H c)), h.2 c⟩)
    (θ_run_and (run_main m ρ) (unchanged m ρ))

end Cert.Proof.Ker

end
-- ==== Proof.Pre.lean ====
/-
  The precondition read at the exact instance: arguments that satisfy it are real numbers of the kind `Numbers` asks for.
-/
module

public import proofs.«01_k».proof.Pre_model
public import proofs.«01_k».proof.Proof.Ref
public import Idealize.ShloMosaic.Lib.Pointwise

@[expose] public section

set_option maxRecDepth 16384

noncomputable section

namespace Cert.Proof.Pre

open Idealize.ShloMosaic
open Cert.Pre_model
open scoped BigOperators

/-- A comparison that gives one holds. -/
theorem of_one {p : Prop} [Decidable p] (h : BitVec.ofBool (decide p) = 1#1) : p := by
  by_contra n
  simp [n] at h

/-- Of two comparisons whose conjunction is one, both hold. -/
theorem of_and {p q : Prop} [Decidable p] [Decidable q]
    (h : BitVec.ofBool (decide p) &&& BitVec.ofBool (decide q) = 1#1) : p ∧ q := by
  by_cases hp : p <;> by_cases hq : q <;> simp [hp, hq] at h ⊢

/-- An extended real of a magnitude below infinity is a real number. -/
theorem coe_of_abs {x : EReal} (h : max x (-x) < ⊤) : x = (x.toReal : EReal) := by
  refine (EReal.coe_toReal ?_ ?_).symm
  · rintro rfl
    simp at h
  · rintro rfl
    simp at h

/-- An extended real between zero and infinity is a real number. -/
theorem coe_of_nonneg {x : EReal} (h : 0 ≤ x) (h' : x < ⊤) : x = (x.toReal : EReal) :=
  (EReal.coe_toReal h'.ne (ne_of_gt (lt_of_lt_of_le EReal.bot_lt_zero h))).symm

section

variable [Cert.Pre_model.Facts] {a0 : FVec Ideal S32768x32 .f32} {a1 : IVec S2048 32} {a2 : FVec Ideal S64 .f32}
  {a3 : FVec Ideal S64x64 .f32} {a4 a5 : FVec Ideal S64x32 .f32}

/-- The data are real numbers. -/
theorem data (h : (fn a0 a1 a2 a3 a4 a5).1 = fun _ => 1#1) (r : Fin 32768) (d : Fin 32) :
    a0 (ix2 r d) = ((a0 (ix2 r d)).toReal : EReal) := by
  have e := congrFun h (ix2 r d)
  pointwise [fn, fn_part1] at e
  exact coe_of_abs (Reals.ofBits_top ▸ of_one e)

/-- The initial weights lie between zero and infinity. -/
theorem initial (h : (fn a0 a1 a2 a3 a4 a5).2.1 = fun _ => 1#1) (j : Fin 64) : 0 ≤ a2 (ix1 j) ∧ a2 (ix1 j) < ⊤ := by
  have e := congrFun h (ix1 j)
  pointwise [fn, fn_part1] at e
  exact Reals.ofBits_top ▸ of_and e

/-- The initial weights do not all vanish. -/
theorem initial_tot (h : (fn a0 a1 a2 a3 a4 a5).2.2.1 = fun _ => 1#1) : 0 < ∑ j, a2 (ix1 j) := by
  have e := congrFun h ix0
  pointwise [fn, fn_part1] at e
  exact of_one e

/-- The transition weights lie between zero and infinity. -/
theorem transition (h : (fn a0 a1 a2 a3 a4 a5).2.2.2.1 = fun _ => 1#1) (i j : Fin 64) :
    0 ≤ a3 (ix2 i j) ∧ a3 (ix2 i j) < ⊤ := by
  have e := congrFun h (ix2 i j)
  pointwise [fn, fn_part1] at e
  exact Reals.ofBits_top ▸ of_and e

/-- The transition weights out of a state do not all vanish. -/
theorem transition_tot (h : (fn a0 a1 a2 a3 a4 a5).2.2.2.2.1 = fun _ => 1#1) (i : Fin 64) : 0 < ∑ j, a3 (ix2 i j) := by
  have e := congrFun h (ix1 i)
  pointwise [fn, fn_part1] at e
  exact of_one e

/-- The means are real numbers. -/
theorem means (h : (fn a0 a1 a2 a3 a4 a5).2.2.2.2.2.1 = fun _ => 1#1) (j : Fin 64) (d : Fin 32) :
    a4 (ix2 j d) = ((a4 (ix2 j d)).toReal : EReal) := by
  have e := congrFun h (ix2 j d)
  pointwise [fn, fn_part1] at e
  exact coe_of_abs (Reals.ofBits_top ▸ of_one e)

/-- The variances lie between zero and infinity, zero left out. -/
theorem variances (h : (fn a0 a1 a2 a3 a4 a5).2.2.2.2.2.2 = fun _ => 1#1) (j : Fin 64) (d : Fin 32) :
    0 < a5 (ix2 j d) ∧ a5 (ix2 j d) < ⊤ := by
  have e := congrFun h (ix2 j d)
  pointwise [fn, fn_part1] at e
  exact Reals.ofBits_top ▸ of_and e

end

/-- Arguments that satisfy the precondition hold numbers of the kind both programs are read at. -/
theorem numbers (hF : Cert.Pre_model.Facts) (a0 : FVec Ideal S32768x32 .f32) (a1 : IVec S2048 32) (a2 : FVec Ideal S64 .f32)
    (a3 : FVec Ideal S64x64 .f32) (a4 a5 : FVec Ideal S64x32 .f32)
    (h : (fn a0 a1 a2 a3 a4 a5).1 = (fun _ => 1#1) ∧ (fn a0 a1 a2 a3 a4 a5).2.1 = (fun _ => 1#1)
      ∧ (fn a0 a1 a2 a3 a4 a5).2.2.1 = (fun _ => 1#1) ∧ (fn a0 a1 a2 a3 a4 a5).2.2.2.1 = (fun _ => 1#1)
      ∧ (fn a0 a1 a2 a3 a4 a5).2.2.2.2.1 = (fun _ => 1#1) ∧ (fn a0 a1 a2 a3 a4 a5).2.2.2.2.2.1 = (fun _ => 1#1)
      ∧ (fn a0 a1 a2 a3 a4 a5).2.2.2.2.2.2 = (fun _ => 1#1)) :
    ∃ N : Numbers, Ref.Holds N a0 a2 a3 a4 a5 := by
  obtain ⟨hx, hp, hps, hP, hPs, hmu, hv⟩ := h
  have p j := coe_of_nonneg (initial hp j).1 (initial hp j).2
  have P i j := coe_of_nonneg (transition hP i j).1 (transition hP i j).2
  have v j d := coe_of_nonneg (variances hv j d).1.le (variances hv j d).2
  refine ⟨⟨fun r d => (a0 (ix2 r d)).toReal, fun j => (a2 (ix1 j)).toReal, fun i j => (a3 (ix2 i j)).toReal,
    fun j d => (a4 (ix2 j d)).toReal, fun j d => (a5 (ix2 j d)).toReal, fun j d => ?_, fun j => ?_, ?_, fun i j => ?_,
    fun i => ?_⟩, data hx, p, P, means hmu, v⟩
  · exact EReal.coe_pos.1 (v j d ▸ (variances hv j d).1)
  · exact EReal.toReal_nonneg (initial hp j).1
  · have s := initial_tot hps
    rw [Finset.sum_congr rfl fun j _ => p j, Reals.sum_coe] at s
    exact EReal.coe_pos.1 s
  · exact EReal.toReal_nonneg (transition hP i j).1
  · have s := transition_tot hPs i
    rw [Finset.sum_congr rfl fun j _ => P i j, Reals.sum_coe] at s
    exact EReal.coe_pos.1 s

end Cert.Proof.Pre

end
-- ==== Proof.Algebra.lean ====
/-
  The value claim: from memories that agree on arguments that satisfy the precondition, the idealized kernel and the reference
  end with the same two results.
-/
module

public import proofs.«01_k».proof.Defs
public import proofs.«01_k».proof.Proof.Frames
public import proofs.«01_k».proof.Proof.KerVal
public import proofs.«01_k».proof.Proof.Pre

@[expose] public section

set_option maxRecDepth 16384

noncomputable section

namespace Cert.Proof

open Idealize.ShloMosaic Idealize.ShloMosaic.TcCoe Idealize.SL.Sem

namespace Ref

open Cert.ReferenceIdeal

variable (m : (ℓ : Loc nD τ sig) → Buf (Elt Ideal) ℓ) (ρ : Dev nD → PrngReg)

/-- The reference's run from arguments that hold the numbers: the textbook's rows after the last time, minus the sum of the
textbook's logarithms, and the arguments as they were. -/
theorem run (N : Dev nD → Numbers)
    (H : ∀ c : Dev nD, Holds (N c) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))) :
    θ_run defs (onTc (τ := τ) (main (F := Ideal))) ⟨m, fun _ => 0, ρ⟩ (fun r => ∀ c : Dev nD,
      r.2.mem ((c.tc : Thread nD τ).loc main_v44_3) = Ker.alphas (N c)
      ∧ r.2.mem ((c.tc : Thread nD τ).loc main_v47) = Ker.losses (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (StepRun.run_iter m ρ
    (fun c => states (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)))
    (fun _ => rfl) (fun _ _ => rfl))
  have A := at_all (H c) 2047 le_rfl
  refine ⟨(h c).1.trans (funext fun y => ?_), (h c).2.1.trans (funext fun y => ?_), (h c).2.2⟩
  · rw [ValueIdx.eq_ix2 y]
    exact A.alpha (y 0) (y 1)
  · rw [ValueIdx.eq_ix1 y]
    exact loss A (y 0)

end Ref

/-- The value claim. -/
theorem algebraic : Cert.algebraic_KernelIdeal_ReferenceIdeal_pre_model (hKernelIdeal := Cert.KernelIdeal.Gen.facts)
    (hReferenceIdeal := Cert.ReferenceIdeal.Gen.facts) (hPre_model := modelFacts) := by
  intro m g m' g' hpre hargs
  choose N H using fun c => Pre.numbers modelFacts _ _ _ _ _ _ (hpre c)
  refine ⟨fun c => Ker.alphas (N c), fun c => Ker.losses (N c), Ker.run m g N H, Ref.run m' g' N fun c => ?_⟩
  obtain ⟨e0, _, e2, e3, e4, e5⟩ := hargs c
  rw [e0, e2, e3, e4, e5]
  exact H c

end Cert.Proof

end
-- ==== Proof.lean ====
/- Hand-written. The proof of `Cert.Claim`: the witnesses of the facts the programs state, then each claim. -/
module

public import proofs.«01_k».proof.Defs
public import proofs.«01_k».proof.Proof.Frames
public import proofs.«01_k».proof.Proof.Algebra

@[expose] public section

noncomputable section

namespace Cert.Proof

/-- Every claim of the certificate. -/
theorem claim : Cert.Claim :=
  ⟨Cert.Kernel.Gen.facts, Cert.KernelIdeal.Gen.facts, Cert.ReferenceIdeal.Gen.facts, modelFacts, frame_p, frame_pi,
    fun m ρ _ => Cert.KernelIdeal.Gen.frame m ρ, frame_ri, fun m ρ _ => frame_ri m ρ trivial, preserves, algebraic⟩

end Cert.Proof

end
